-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x128 : Shape := ⟨2, ![16384, 128]⟩
abbrev S1x128x11 : Shape := ⟨3, ![1, 128, 11]⟩
abbrev S128x11 : Shape := ⟨2, ![128, 11]⟩
abbrev S_ : Shape := ⟨0, ![]⟩
abbrev S128x16 : Shape := ⟨2, ![128, 16]⟩
abbrev S16384x4 : Shape := ⟨2, ![16384, 4]⟩
abbrev S2048x128 : Shape := ⟨2, ![2048, 128]⟩
abbrev S2048x4 : Shape := ⟨2, ![2048, 4]⟩
abbrev S2048x16 : Shape := ⟨2, ![2048, 16]⟩
abbrev S2048 : Shape := ⟨1, ![2048]⟩
abbrev S2048x1 : Shape := ⟨2, ![2048, 1]⟩
abbrev S16 : Shape := ⟨1, ![16]⟩
abbrev S1x16 : Shape := ⟨2, ![1, 16]⟩

abbrev nBuf : Space → Nat
  | .hbm => 7
  | .vmem => 5
  | .smem => 0
  | _ => 0

abbrev bufTy : (tb : Table) → Fin (tcTables nBuf tb) → BufTy
  | .hbm, ⟨0, _⟩ => ⟨S16384x128, .f32⟩
  | .hbm, ⟨1, _⟩ => ⟨S1x128x11, .f32⟩
  | .hbm, ⟨2, _⟩ => ⟨S128x11, .f32⟩
  | .hbm, ⟨3, _⟩ => ⟨S_, .i32⟩
  | .hbm, ⟨4, _⟩ => ⟨S_, .f32⟩
  | .hbm, ⟨5, _⟩ => ⟨S128x16, .f32⟩
  | .hbm, ⟨6, _⟩ => ⟨S16384x4, .f32⟩
  | .local _ .vmem, ⟨0, _⟩ => ⟨S2048x128, .f32⟩
  | .local _ .vmem, ⟨1, _⟩ => ⟨S2048x128, .f32⟩
  | .local _ .vmem, ⟨2, _⟩ => ⟨S128x16, .f32⟩
  | .local _ .vmem, ⟨3, _⟩ => ⟨S2048x4, .f32⟩
  | .local _ .vmem, ⟨4, _⟩ => ⟨S2048x4, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S16384x128 : Shape := ⟨2, ![16384, 128]⟩
abbrev S1x128x11 : Shape := ⟨3, ![1, 128, 11]⟩
abbrev S11 : Shape := ⟨1, ![11]⟩
abbrev S16384x128x1 : Shape := ⟨3, ![16384, 128, 1]⟩
abbrev S16384x128x11 : Shape := ⟨3, ![16384, 128, 11]⟩
abbrev S_ : Shape := ⟨0, ![]⟩
abbrev S16384x11 : Shape := ⟨2, ![16384, 11]⟩
abbrev S16384 : Shape := ⟨1, ![16384]⟩
abbrev S16384x1 : Shape := ⟨2, ![16384, 1]⟩
abbrev S128x11 : Shape := ⟨2, ![128, 11]⟩
abbrev S1x11 : Shape := ⟨2, ![1, 11]⟩
abbrev S11x1 : Shape := ⟨2, ![11, 1]⟩
abbrev S4 : Shape := ⟨1, ![4]⟩
abbrev S1x4 : Shape := ⟨2, ![1, 4]⟩
abbrev S11x4 : Shape := ⟨2, ![11, 4]⟩
abbrev S1x11x4 : Shape := ⟨3, ![1, 11, 4]⟩
abbrev S16384x11x1 : Shape := ⟨3, ![16384, 11, 1]⟩
abbrev S16384x11x4 : Shape := ⟨3, ![16384, 11, 4]⟩
abbrev S16384x4 : Shape := ⟨2, ![16384, 4]⟩
abbrev S65536 : Shape := ⟨1, ![65536]⟩

abbrev nBuf : Space → Nat
  | .hbm => 67
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S1x128x11, .f32⟩
  | .hbm, ⟨2, _⟩ => ⟨S11, .i32⟩
  | .hbm, ⟨3, _⟩ => ⟨S16384x128x1, .f32⟩
  | .hbm, ⟨4, _⟩ => ⟨S16384x128x11, .f32⟩
  | .hbm, ⟨5, _⟩ => ⟨S16384x128x11, .f32⟩
  | .hbm, ⟨6, _⟩ => ⟨S16384x128x11, .f32⟩
  | .hbm, ⟨7, _⟩ => ⟨S_, .f32⟩
  | .hbm, ⟨8, _⟩ => ⟨S16384x11, .f32⟩
  | .hbm, ⟨9, _⟩ => ⟨S16384x128, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S16384x1, .f32⟩
  | .hbm, ⟨14, _⟩ => ⟨S128x11, .f32⟩
  | .hbm, ⟨15, _⟩ => ⟨S128x11, .f32⟩
  | .hbm, ⟨16, _⟩ => ⟨S_, .f32⟩
  | .hbm, ⟨17, _⟩ => ⟨S11, .f32⟩
  | .hbm, ⟨18, _⟩ => ⟨S11, .f32⟩
  | .hbm, ⟨19, _⟩ => ⟨S1x11, .f32⟩
  | .hbm, ⟨20, _⟩ => ⟨S16384x11, .f32⟩
  | .hbm, ⟨21, _⟩ => ⟨S16384x11, .f32⟩
  | .hbm, ⟨22, _⟩ => ⟨S16384x11, .f32⟩
  | .hbm, ⟨23, _⟩ => ⟨S_, .f32⟩
  | .hbm, ⟨24, _⟩ => ⟨S16384x11, .f32⟩
  | .hbm, ⟨25, _⟩ => ⟨S16384x11, .f32⟩
  | .hbm, ⟨26, _⟩ => ⟨S16384x11, .f32⟩
  | .hbm, ⟨27, _⟩ => ⟨S11x1, .i32⟩
  | .hbm, ⟨28, _⟩ => ⟨S4, .i32⟩
  | .hbm, ⟨29, _⟩ => ⟨S1x4, .i32⟩
  | .hbm, ⟨30, _⟩ => ⟨S11x4, .i32⟩
  | .hbm, ⟨31, _⟩ => ⟨S11x4, .i32⟩
  | .hbm, ⟨32, _⟩ => ⟨S11x4, .i1⟩
  | .hbm, ⟨33, _⟩ => ⟨S1x11x4, .i1⟩
  | .hbm, ⟨34, _⟩ => ⟨S16384x11x1, .f32⟩
  | .hbm, ⟨35, _⟩ => ⟨S_, .f32⟩
  | .hbm, ⟨36, _⟩ => ⟨S_, .f32⟩
  | .hbm, ⟨37, _⟩ => ⟨S16384x11x4, .i1⟩
  | .hbm, ⟨38, _⟩ => ⟨S16384x11x4, .f32⟩
  | .hbm, ⟨39, _⟩ => ⟨S16384x11x4, .f32⟩
  | .hbm, ⟨40, _⟩ => ⟨S16384x11x4, .f32⟩
  | .hbm, ⟨41, _⟩ => ⟨S_, .f32⟩
  | .hbm, ⟨42, _⟩ => ⟨S16384x4, .f32⟩
  | .hbm, ⟨43, _⟩ => ⟨S16384x4, .i32⟩
  | .hbm, ⟨44, _⟩ => ⟨S_, .f32⟩
  | .hbm, ⟨45, _⟩ => ⟨S_, .i32⟩
  | .hbm, ⟨46, _⟩ => ⟨S16384, .f32⟩
  | .hbm, ⟨47, _⟩ => ⟨S16384, .i32⟩
  | .hbm, ⟨48, _⟩ => ⟨S16384, .i32⟩
  | .hbm, ⟨49, _⟩ => ⟨S_, .i32⟩
  | .hbm, ⟨50, _⟩ => ⟨S16384, .i32⟩
  | .hbm, ⟨51, _⟩ => ⟨S16384, .i32⟩
  | .hbm, ⟨52, _⟩ => ⟨S16384, .i32⟩
  | .hbm, ⟨53, _⟩ => ⟨S_, .f32⟩
  | .hbm, ⟨54, _⟩ => ⟨S65536, .f32⟩
  | .hbm, ⟨55, _⟩ => ⟨S_, .i32⟩
  | .hbm, ⟨56, _⟩ => ⟨S16384, .i32⟩
  | .hbm, ⟨57, _⟩ => ⟨S16384, .i1⟩
  | .hbm, ⟨58, _⟩ => ⟨S_, .i32⟩
  | .hbm, ⟨59, _⟩ => ⟨S16384, .i32⟩
  | .hbm, ⟨60, _⟩ => ⟨S16384, .i32⟩
  | .hbm, ⟨61, _⟩ => ⟨S16384, .i32⟩
  | .hbm, ⟨62, _⟩ => ⟨S16384x1, .i32⟩
  | .hbm, ⟨63, _⟩ => ⟨S_, .f32⟩
  | .hbm, ⟨64, _⟩ => ⟨S16384, .f32⟩
  | .hbm, ⟨65, _⟩ => ⟨S65536, .f32⟩
  | .hbm, ⟨66, _⟩ => ⟨S16384x4, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v5 : Ref sig .tc := ⟨.hbm, 13, rfl⟩
abbrev main_v6 : Ref sig .tc := ⟨.hbm, 14, rfl⟩
abbrev main_call1_v0 : Ref sig .tc := ⟨.hbm, 15, rfl⟩
abbrev main_call1_cst : Ref sig .tc := ⟨.hbm, 16, rfl⟩
abbrev main_call1_v1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_call3_v0 : Ref sig .tc := ⟨.hbm, 43, rfl⟩
abbrev main_call3_cst : Ref sig .tc := ⟨.hbm, 44, rfl⟩
abbrev main_call3_c : Ref sig .tc := ⟨.hbm, 45, rfl⟩
abbrev main_call3_v1_0 : Ref sig .tc := ⟨.hbm, 46, rfl⟩
abbrev main_v25 : Ref sig .tc := ⟨.hbm, 47, rfl⟩
abbrev main_v26 : Ref sig .tc := ⟨.hbm, 48, rfl⟩
abbrev main_c_3 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_4 : Ref sig .tc := ⟨.hbm, 53, rfl⟩
abbrev main_v30 : Ref sig .tc := ⟨.hbm, 54, rfl⟩
abbrev main_c_5 : Ref sig .tc := ⟨.hbm, 55, rfl⟩
abbrev main_v31 : Ref sig .tc := ⟨.hbm, 56, rfl⟩
abbrev main_v32 : Ref sig .tc := ⟨.hbm, 57, rfl⟩
abbrev main_c_6 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_7 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩

abbrev nD : Nat := 1
abbrev τ : Topo := Topo.v7x

variable {F : FTy → Type} [FloatOps F]
-- ==== Proof.Best.lean ====
module

public import Idealize.ShloMosaic.Lib.Pointwise
public import Idealize.ShloMosaic.Lib.IdealHost

/-!
Choosing an action from eleven similarities.

Eleven points belong to four actions: points 0 to 3 to action 0, points 4 to 8 to action 1, point 9 to action 2 and
point 10 to action 3. The kernel looks for the first point of the greatest similarity and takes its action; the
reference takes the greatest similarity of every action's points first and then the first action of the greatest. The
lemmas below say that the two ways give the same action, whatever the similarities are: ties and infinities included.
-/

@[expose] public section
noncomputable section

namespace Cert.Best

open Idealize.ShloMosaic

/-- Minus infinity's word. -/
theorem ofBits_bot : Ideal.ofBits .f32 0xFF800000#32 = (⊥ : EReal) := by
  simp [Ideal.ofBits, Ideal.ieee]

/-- The action to which each of the eleven points belongs. -/
def act : Fin 11 → Fin 4 := ![0, 0, 0, 0, 1, 1, 1, 1, 1, 2, 3]

/-- A later point belongs to the same action or to a later one. -/
theorem act_mono : ∀ p q : Fin 11, p ≤ q → act p ≤ act q := by decide

/-- Every action has a point. -/
theorem act_onto : ∀ b : Fin 4, ∃ p : Fin 11, act p = b := by decide

/-- Point `p` is the first of the points of greatest similarity. -/
def First (s : Fin 11 → EReal) (p : Fin 11) : Prop := (∀ q, s q ≤ s p) ∧ ∀ q, q < p → s q < s p

/-- There is a first point of greatest similarity. -/
theorem exists_first (s : Fin 11 → EReal) : ∃ p, First s p := by
  classical
  obtain ⟨m, hm⟩ := Finite.exists_max s
  have hne : (Finset.univ.filter fun p => s p = s m).Nonempty := ⟨m, by simp⟩
  refine ⟨(Finset.univ.filter fun p => s p = s m).min' hne, ?_, ?_⟩
  · intro q
    have h := (Finset.mem_filter.1 (Finset.min'_mem _ hne)).2
    rw [h]; exact hm q
  · intro q hq
    have h := (Finset.mem_filter.1 (Finset.min'_mem _ hne)).2
    rw [h]
    refine lt_of_le_of_ne (hm q) fun e => ?_
    exact absurd (Finset.min'_le _ q (by simp [e])) (not_le.2 hq)

/-- The action chosen: that of the first point of greatest similarity. -/
def choice (s : Fin 11 → EReal) : Fin 4 := act (exists_first s).choose

/-- The action chosen is that of a first point of greatest similarity. -/
theorem choice_spec (s : Fin 11 → EReal) : ∃ p, First s p ∧ choice s = act p :=
  ⟨_, (exists_first s).choose_spec, rfl⟩

/-- The cosine similarity of two vectors of 128 entries, the product of the norms kept from zero by a small constant. -/
def cosine (x a : Fin 128 → EReal) : EReal :=
  Ideal.div (∑ k, x k * a k)
    (max (Ideal.sqrt (∑ k, x k * x k) * Ideal.sqrt (∑ k, a k * a k)) (Ideal.ofBits .f32 0x322BCC77#32))

/-- The whole result: in row `r` the entry of the chosen action is one, and the others are zero. -/
def hot (x : Fin 16384 → Fin 128 → EReal) (a : Fin 128 → Fin 11 → EReal) (r : Fin 16384) (l : Fin 4) : EReal :=
  if l = choice (fun p => cosine (x r) (fun k => a k p)) then 1 else 0

/-! ### The kernel's way: the first lane that holds the greatest similarity -/

/-- A minimum of signed words over a finite set: it is the start or one of the words, and none of them is below it. -/
theorem fold_minsi_spec {ι : Type} [DecidableEq ι] (f : ι → BitVec 32) (b : BitVec 32) (S : Finset ι) :
    (Finset.fold IntOp.minsi b f S = b ∨ ∃ k ∈ S, Finset.fold IntOp.minsi b f S = f k) ∧
      ∀ k ∈ S, (Finset.fold IntOp.minsi b f S).toInt ≤ (f k).toInt := by
  induction S using Finset.induction_on with
  | empty => exact ⟨Or.inl rfl, by simp⟩
  | insert a S ha ih =>
    rw [Finset.fold_insert ha]
    obtain ⟨h1, h2⟩ := ih
    generalize Finset.fold IntOp.minsi b f S = v at h1 h2 ⊢
    unfold IntOp.minsi
    by_cases hlt : (f a).slt v = true
    · rw [if_pos hlt]
      have hi : (f a).toInt < v.toInt := by simpa [BitVec.slt] using hlt
      refine ⟨Or.inr ⟨a, by simp, rfl⟩, fun k hk => ?_⟩
      rcases Finset.mem_insert.1 hk with rfl | hk
      · exact le_rfl
      · exact hi.le.trans (h2 k hk)
    · rw [if_neg hlt]
      have hi : v.toInt ≤ (f a).toInt := by simpa [BitVec.slt] using hlt
      refine ⟨?_, fun k hk => ?_⟩
      · rcases h1 with h | ⟨k, hk, h⟩
        · exact Or.inl h
        · exact Or.inr ⟨k, by simp [hk], h⟩
      · rcases Finset.mem_insert.1 hk with rfl | hk
        · exact hi
        · exact h2 k hk

/-- Sixteen lanes hold the eleven similarities and, in the last five, minus infinity: the least lane holding the
    greatest lane's value is the first point of greatest similarity. -/
theorem first_lane (s : Fin 11 → EReal) (w : Fin 16 → EReal) (p : Fin 11) (hp : First s p)
    (hw : ∀ q : Fin 11, w (Fin.castLE (by decide) q) = s q) (hpad : ∀ c : Fin 16, 11 ≤ c.val → w c = ⊥) :
    Finset.fold IntOp.minsi 2147483647#32
        (fun c : Fin 16 => if w c = Finset.fold max (⊥ : EReal) w Finset.univ then BitVec.ofNat 32 c.val else 16#32)
        Finset.univ
      = BitVec.ofNat 32 p.val := by
  have hcase : ∀ c : Fin 16, w c ≤ s p := fun c => by
    by_cases hc : c.val < 11
    · have := hw ⟨c.val, hc⟩
      have e : Fin.castLE (by decide : 11 ≤ 16) ⟨c.val, hc⟩ = c := Fin.ext rfl
      rw [e] at this
      rw [this]; exact hp.1 _
    · rw [hpad c (by omega)]; exact bot_le
  have hM : Finset.fold max (⊥ : EReal) w Finset.univ = s p := by
    refine le_antisymm ?_ ?_
    · exact Finset.fold_max_le _ |>.2 ⟨bot_le, fun c _ => hcase c⟩
    · exact (Finset.le_fold_max _).2 (Or.inr ⟨Fin.castLE (by decide) p, Finset.mem_univ _, (hw p).ge⟩)
  rw [hM]
  have hlow : ∀ c : Fin 16, w c = s p → p.val ≤ c.val := fun c hc => by
    by_contra hlt
    have hlt' : c.val < p.val := by omega
    have := hw ⟨c.val, by omega⟩
    have e : Fin.castLE (by decide : 11 ≤ 16) ⟨c.val, by omega⟩ = c := Fin.ext rfl
    rw [e, hc] at this
    exact absurd (hp.2 ⟨c.val, by omega⟩ hlt') (by rw [← this]; exact lt_irrefl _)
  obtain ⟨h1, h2⟩ := fold_minsi_spec
    (fun c : Fin 16 => if w c = s p then BitVec.ofNat 32 c.val else 16#32) 2147483647#32 Finset.univ
  have hle := h2 (Fin.castLE (by decide) p) (Finset.mem_univ _)
  rw [if_pos (hw p)] at hle
  have hpI : (BitVec.ofNat 32 p.val).toInt = p.val := by
    have := p.isLt
    rw [BitVec.toInt_eq_toNat_of_lt (by simp; omega)]; simp; omega
  have hle' : (Finset.fold IntOp.minsi 2147483647#32
      (fun c : Fin 16 => if w c = s p then BitVec.ofNat 32 c.val else 16#32) Finset.univ).toInt ≤ (p.val : Int) := by
    rw [← hpI]; exact hle
  have hp11 := p.isLt
  rcases h1 with h | ⟨c, -, h⟩
  · rw [h] at hle'
    have : (2147483647#32).toInt = 2147483647 := by decide
    omega
  · rw [h] at hle' ⊢
    by_cases hc : w c = s p
    · simp only [if_pos hc] at hle' ⊢
      have hcI : (BitVec.ofNat 32 c.val).toInt = c.val := by
        have := c.isLt
        rw [BitVec.toInt_eq_toNat_of_lt (by simp; omega)]; simp; omega
      have := hlow c hc
      have e : c.val = p.val := by omega
      rw [e]
    · simp only [if_neg hc] at hle'
      have : (16#32).toInt = 16 := by decide
      omega

/-! ### The reference's way: the greatest similarity of every action, and the first action of the greatest -/

/-- The greatest similarity of the points of action `b`. -/
def pool (s : Fin 11 → EReal) (b : Fin 4) : EReal :=
  Finset.fold max (⊥ : EReal) (fun p => if act p = b then s p else ⊥) Finset.univ

/-- The action of the first point of greatest similarity has the greatest of the actions' greatest similarities, and
    every action before it has less. -/
theorem pool_first (s : Fin 11 → EReal) (p : Fin 11) (hp : First s p) :
    (∀ b, pool s b ≤ pool s (act p)) ∧ ∀ b, b < act p → pool s b < pool s (act p) := by
  have hM : pool s (act p) = s p := by
    refine le_antisymm ?_ ?_
    · refine (Finset.fold_max_le _).2 ⟨bot_le, fun q _ => ?_⟩
      by_cases h : act q = act p
      · rw [if_pos h]; exact hp.1 q
      · rw [if_neg h]; exact bot_le
    · exact (Finset.le_fold_max _).2 (Or.inr ⟨p, Finset.mem_univ _, by rw [if_pos rfl]⟩)
  refine ⟨fun b => ?_, fun b hb => ?_⟩
  · rw [hM]
    refine (Finset.fold_max_le _).2 ⟨bot_le, fun q _ => ?_⟩
    by_cases h : act q = b
    · rw [if_pos h]; exact hp.1 q
    · rw [if_neg h]; exact bot_le
  · rw [hM]
    obtain ⟨q₀, hq₀⟩ := act_onto b
    have before : ∀ q, act q = b → s q < s p := fun q hq =>
      hp.2 q (lt_of_not_ge fun hge => absurd (act_mono p q hge) (by rw [hq]; exact not_le.2 hb))
    have hbot : (⊥ : EReal) < s p := lt_of_le_of_lt bot_le (before q₀ hq₀)
    refine (Finset.fold_max_lt _).2 ⟨hbot, fun q _ => ?_⟩
    by_cases h : act q = b
    · rw [if_pos h]; exact before q h
    · rw [if_neg h]; exact hbot

/-- A pair is not worse than another: its value is greater, or the values are equal and its word, read signed, is not
    the greater one. -/
def Beats (u v : EReal × BitVec 32) : Prop := v.1 < u.1 ∨ (v.1 = u.1 ∧ u.2.toInt ≤ v.2.toInt)

/-- A pair is not worse than itself. -/
theorem Beats.refl (u : EReal × BitVec 32) : Beats u u := Or.inr ⟨rfl, le_rfl⟩

/-- Of three pairs, the first is not worse than the last if each is not worse than the next. -/
theorem Beats.trans {u v w : EReal × BitVec 32} (h : Beats u v) (h' : Beats v w) : Beats u w := by
  rcases h with h | ⟨h, i⟩ <;> rcases h' with h' | ⟨h', i'⟩
  · exact Or.inl (h'.trans h)
  · exact Or.inl (by rw [h']; exact h)
  · exact Or.inl (by rw [← h]; exact h')
  · exact Or.inr ⟨h'.trans h, i.trans i'⟩

/-- A fold that keeps, of two pairs, one that is not worse than either: the result is the start or a member of the list,
    and is not worse than any of them. -/
theorem foldl_best (f : EReal × BitVec 32 → EReal × BitVec 32 → EReal × BitVec 32)
    (hf : ∀ u v, (f u v = u ∨ f u v = v) ∧ Beats (f u v) u ∧ Beats (f u v) v) (l : List (EReal × BitVec 32)) :
    ∀ b, (List.foldl f b l = b ∨ List.foldl f b l ∈ l) ∧ Beats (List.foldl f b l) b ∧ ∀ v ∈ l, Beats (List.foldl f b l) v := by
  induction l with
  | nil => exact fun b => ⟨Or.inl rfl, Beats.refl b, by simp⟩
  | cons a l ih =>
    intro b
    obtain ⟨h1, h2, h3⟩ := ih (f b a)
    obtain ⟨g1, g2, g3⟩ := hf b a
    rw [List.foldl_cons]
    refine ⟨?_, h2.trans g2, fun v hv => ?_⟩
    · rcases h1 with h | h
      · rw [h]
        rcases g1 with g | g
        · exact Or.inl g
        · exact Or.inr (by rw [g]; simp)
      · exact Or.inr (by simp [h])
    · rcases List.mem_cons.1 hv with rfl | hv
      · exact h2.trans g3
      · exact h3 v hv

/-- The fold over four values with their places, begun at minus infinity and place 0: the place it ends with is the
    first place of the greatest value. -/
theorem foldl_place (f : EReal × BitVec 32 → EReal × BitVec 32 → EReal × BitVec 32)
    (hf : ∀ u v, (f u v = u ∨ f u v = v) ∧ Beats (f u v) u ∧ Beats (f u v) v) (l : List (EReal × BitVec 32))
    (q : Fin 4 → EReal) (hl : ∀ v, v ∈ l ↔ ∃ b : Fin 4, v = (q b, BitVec.ofNat 32 b.val)) (b : Fin 4)
    (hb : ∀ c, q c ≤ q b) (hlt : ∀ c, c < b → q c < q b) :
    (List.foldl f ((⊥ : EReal), 0#32) l).2 = BitVec.ofNat 32 b.val := by
  have hI : ∀ c : Fin 4, (BitVec.ofNat 32 c.val).toInt = c.val := by decide
  obtain ⟨h1, -, h3⟩ := foldl_best f hf l ((⊥ : EReal), 0#32)
  have hbest := h3 _ ((hl _).2 ⟨b, rfl⟩)
  rcases h1 with h | h
  · rw [h] at hbest ⊢
    rcases hbest with k | ⟨k, -⟩
    · exact absurd k not_lt_bot
    · dsimp only at k
      by_cases h0 : b = 0
      · rw [h0]; rfl
      · have := hlt 0 (Fin.pos_iff_ne_zero.2 h0)
        rw [k] at this
        exact absurd this not_lt_bot
  · obtain ⟨c, hc⟩ := (hl _).1 h
    rw [hc] at hbest ⊢
    rcases hbest with k | ⟨k, i⟩
    · exact absurd k (not_lt.2 (hb c))
    · dsimp only at k i ⊢
      rw [hI, hI] at i
      have hnot : ¬ c < b := fun hcb => absurd (hlt c hcb) (by rw [k]; exact lt_irrefl _)
      have : c = b := by
        apply Fin.ext
        have := not_lt.1 hnot
        have : b.val ≤ c.val := this
        omega
      rw [this]

end Cert.Best
end
-- ==== Proof.KernelValue.lean ====
module

public import proofs.«01_k».proof.Defs
public import proofs.«01_k».proof.Proof.Gen.KernelIdeal.Value
public import proofs.«01_k».proof.Proof.Best
public import Idealize.ShloMosaic.Lib.Pointwise
public import Idealize.ShloMosaic.Lib.IdealHost
public import Idealize.ShloMosaic.Lib.Pipeline.ValueKit
public import Idealize.ShloMosaic.Lib.Claim
public import Idealize.ShloMosaic.Lib.KernelVsHost

/-!
What the kernel computes: the table that one block of rows gives, and then the whole result, block by block.
-/

@[expose] public section
set_option maxRecDepth 16384
noncomputable section

namespace Cert.KernelIdeal.Best
open Idealize.ShloMosaic Idealize.ShloMosaic.TcCoe Idealize.SL.Sem Cert.KernelIdeal Cert.KernelIdeal.Gen Cert.Best

/-- Row `r`'s similarity with column `p` of the padded table of actions. -/
def score (x : Vec Ideal S2048x128 .f32) (a : Vec Ideal S128x16 .f32) (r : Fin 2048) (p : Fin 11) : EReal :=
  cosine (fun k => x (ix2 r k)) (fun k => a (ix2 k (Fin.castLE (by decide) p)))

/-- The first of the eleven lanes at which a row's similarity is the greatest. -/
theorem first_at (x : Vec Ideal S2048x128 .f32) (a : Vec Ideal S128x16 .f32) (r : Fin 2048) (z : Fin 1) (p : Fin 11)
    (hp : First (score x a r) p) : k0_pay2 (F := Ideal) x a (ix2 r z) = BitVec.ofNat 32 p.val := by
  pointwise [k0_pay2]
  simp only [ofBits_bot]
  refine first_lane (score x a r) _ p hp (fun q => ?_) (fun c hc => ?_)
  · have hlt : ∀ q : Fin 11, IntOp.cmpi .slt (BitVec.ofNat 32 (Fin.castLE (by decide : 11 ≤ 16) q).val) 11#32 = 1#1 := by decide
    rw [hlt q]
    exact if_pos rfl
  · have hge : ∀ c : Fin 16, 11 ≤ c.val → IntOp.cmpi .slt (BitVec.ofNat 32 c.val) 11#32 = 0#1 := by decide
    rw [hge c hc]
    exact if_neg (by decide)

/-- The kernel's three comparisons of the first point's number find its action, which an entry's column is compared with. -/
theorem action_word (p : Fin 11) (l : Fin 4) :
    IntOp.cmpi .eq (BitVec.ofNat 32 l.val)
      (Scalar.select (IntOp.cmpi .slt (BitVec.ofNat 32 p.val) 4#32) 0#32
        (Scalar.select (IntOp.cmpi .slt (BitVec.ofNat 32 p.val) 9#32) 1#32
          (Scalar.select (IntOp.cmpi .eq (BitVec.ofNat 32 p.val) 9#32) 2#32 3#32)))
      = if l = act p then 1#1 else 0#1 := by
  revert p l
  decide

/-- The table of ones that a block of rows gives: a one at the action chosen for the row. -/
theorem block_at (x : Vec Ideal S2048x128 .f32) (a : Vec Ideal S128x16 .f32) (r : Fin 2048) (l : Fin 4) :
    k0_pay1 (F := Ideal) (k0_pay3 (F := Ideal) x a) (k0_pay4 (F := Ideal) x a) (k0_pay5 (F := Ideal) x a) 1#32 (ix2 r l)
      = if l = choice (score x a r) then 1 else 0 := by
  obtain ⟨p, hp, hc⟩ := choice_spec (score x a r)
  pointwise [k0_pay1, k0_pay3, k0_pay4, k0_pay5]
  rw [first_at x a r _ p hp, hc, action_word p l]
  by_cases h : l = act p
  · rw [if_pos h, if_pos h]
    show (((BitVec.setWidth 32 1#1).toInt : ℝ) : EReal) = 1
    rw [show (BitVec.setWidth 32 1#1).toInt = 1 by decide]
    simp
  · rw [if_neg h, if_neg h]
    show (((BitVec.setWidth 32 0#1).toInt : ℝ) : EReal) = 0
    rw [show (BitVec.setWidth 32 0#1).toInt = 0 by decide]
    simp

variable (m : (ℓ : Loc nD τ sig) → Buf (Elt Ideal) ℓ)

/-- Where the blocks of rows lie: grid point `t`'s block of words is the `t`-th, its block of results too, and the padded
    table is taken whole at every point. -/
theorem where_blocks : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- Grid point `t`'s block of words, read at a row and a column, is the array at that row of the `t`-th block. -/
theorem words_at (c : Dev nD) (t : Fin cfg0.N) (r : Fin 2048) (k : Fin 128) (R : Fin 16384) (hR : R.val = t.val * 2048 + r.val) :
    (iblk m c 0 t : Vec Ideal S2048x128 .f32) (ix2 r k) = (m (c.tc.loc main_arg0) : FVec Ideal S16384x128 .f32) (ix2 R k) := by
  blk_ext [iblk, V_main_arg0, where_blocks t]

/-- The padded table, which the program makes before the launch. -/
theorem padded (c : Dev nD) :
    (V m c main_v1 : Vec Ideal S128x16 .f32) = pad S128x16 ![0, 0] ![0, 5] ![0, 0]
      (shapeCast S128x11 (m (c.tc.loc main_arg1) : FVec Ideal S1x128x11 .f32) shapeCasts_S1x128x11_S128x11)
      (sitofp (F := Ideal) .f32 (constantI S_ 32 0#32)) pads_S128x11_S128x16_000_050 h_S_ := by
  unfold V
  simp only [hostOps0, hostOps0_1, List.flatten_cons, List.flatten_nil, List.append_nil, List.cons_append, List.nil_append]
  after_results
  rfl

/-- The padded table's first eleven columns are the table of actions. -/
theorem actions_at (c : Dev nD) (t : Fin cfg0.N) (k : Fin 128) (p : Fin 11) :
    (iblk m c 1 t : Vec Ideal S128x16 .f32) (ix2 k (Fin.castLE (by decide) p)) = (m (c.tc.loc main_arg1) : FVec Ideal S1x128x11 .f32) (ix3 0 k p) := by
  have hV : (V m c main_v1 : Vec Ideal S128x16 .f32) (ix2 k (Fin.castLE (by decide) p)) = (m (c.tc.loc main_arg1) : FVec Ideal S1x128x11 .f32) (ix3 0 k p) := by
    rw [padded]
    refine (pad_apply_of_inside _ _ _ _ _ _ _ _ (ix2 k p) fun d => ?_).trans (shapeCast_apply _ _ _ _ ?_)
    · match d with
      | ⟨0, _⟩ => show k.val = 0 + k.val * (0 + 1); omega
      | ⟨1, _⟩ => show p.val = 0 + p.val * (0 + 1); omega
    · rw [Shape.rowMajor_val_two]
      refine (Shape.rowMajor_val_three (d := ![1, 128, 11]) (ix3 0 k p)).trans ?_
      show (0 * 128 + k.val) * 11 + p.val = k.val * 11 + p.val
      omega
  rw [← hV]
  blk_ext [iblk, where_blocks t]

/-- The kernel's table. -/
def table (c : Dev nD) : FVec Ideal S16384x4 .f32 := fun i =>
  hot (fun r k => (m (c.tc.loc main_arg0) : FVec Ideal S16384x128 .f32) (ix2 r k))
    (fun k p => (m (c.tc.loc main_arg1) : FVec Ideal S1x128x11 .f32) (ix3 0 k p)) (i 0) (i 1)

/-- After the run the result array is the table of ones. -/
theorem final (c : Dev nD) : (dats m 0 c).arrAt 2 cfg0.N = table m c := by
  refine (dats m 0 c).arrAt_eq_of_covers 2 _ (by decide +kernel) fun t hf y => ?_
  blk_simp
  rw [after0_2]
  frame_out
  obtain ⟨r, l, rfl⟩ : ∃ (r : Fin 2048) (l : Fin 4), (y : S2048x4.Idx) = ix2 r l := ⟨_, _, eq_ix2 _⟩
  refine (block_at _ _ r l).trans ?_
  have ht : t.val < 8 := t.isLt
  have hr := r.isLt
  have he : (((View.whole main_v2).slice (win0_2.rect t)).emb (ix2 r l) : S16384x4.Idx) = ix2 (⟨t.val * 2048 + r.val, by omega⟩ : Fin 16384) l := by
    blk_ext [where_blocks t]
  refine Eq.trans ?_ (congrArg (table m c) he).symm
  have hs : score (iblk m c 0 t) (iblk m c 1 t) r
      = fun p => cosine (fun k => (m (c.tc.loc main_arg0) : FVec Ideal S16384x128 .f32) (ix2 (⟨t.val * 2048 + r.val, by omega⟩ : Fin 16384) k))
        (fun k => (m (c.tc.loc main_arg1) : FVec Ideal S1x128x11 .f32) (ix3 0 k p)) :=
    funext fun p => congrArg₂ cosine (funext fun k => words_at m c t r k _ rfl) (funext fun k => actions_at m c t k p)
  rw [hs]
  rfl

end Cert.KernelIdeal.Best
end
-- ==== Proof.RefValue.lean ====
module

public import proofs.«01_k».proof.Defs
public import proofs.«01_k».proof.Proof.Gen.ReferenceIdeal
public import proofs.«01_k».proof.Proof.Best
public import Idealize.ShloMosaic.Lib.Pointwise
public import Idealize.ShloMosaic.Lib.IdealHost
public import Idealize.ShloMosaic.Lib.Routing.OpsSet
public import Idealize.ShloMosaic.Lib.Pointwise.IndexBridge
public import Idealize.ShloMosaic.Lib.Pipeline.Value

/-!
What the reference computes, stage by stage: the similarities, the greatest of every action's, the action chosen, the
place to which every row's one is written, and the table of zeros with those ones.
-/

@[expose] public section
noncomputable section

namespace Cert.ReferenceIdeal.Best
open Idealize.ShloMosaic Idealize.SL.Sem Cert.ReferenceIdeal Cert.Best
open Cert.ReferenceIdeal.Facts₀
variable [Cert.ReferenceIdeal.Facts]

/-- Row `r`'s similarity with point `p`. -/
def score (x : FVec Ideal S16384x128 .f32) (a : FVec Ideal S1x128x11 .f32) (r : Fin 16384) (p : Fin 11) : EReal :=
  cosine (fun k => x (ix2 r k)) (fun k => a (ix3 0 k p))

/-- The similarities of every row of `x` with every column of `a`. -/
def sims (x : FVec Ideal S16384x128 .f32) (a : FVec Ideal S1x128x11 .f32) : FVec Ideal S16384x11 .f32 :=
  Host.divf
    (Host.reduceAdd
      (mulf (broadcastInDim S16384x128x11 ![0, 1, 2] bcast_S16384x128x1_S16384x128x11_0_1_2
          (broadcastInDim S16384x128x1 ![0, 1] bcast_S16384x128_S16384x128x1_0_1 x))
        (broadcastInDim S16384x128x11 ![0, 1, 2] bcast_S1x128x11_S16384x128x11_0_1_2 a))
      (constant S_ .f32 0x00000000#32) reducesTo_S16384x128x11_S16384x11_d1 h_S_)
    (maximumf
      (mulf
        (broadcastInDim S16384x11 ![0, 1] bcast_S16384x1_S16384x11_0_1
          (Host.sqrt (broadcastInDim S16384x1 ![0] bcast_S16384_S16384x1_0
            (Host.reduceAdd (mulf x x) (constant S_ .f32 0x00000000#32) reducesTo_S16384x128_S16384_d1 h_S_))))
        (broadcastInDim S16384x11 ![0, 1] bcast_S1x11_S16384x11_0_1
          (broadcastInDim S1x11 ![1] bcast_S11_S1x11_1
            (Host.sqrt (Host.reduceAdd
              (mulf (shapeCast S128x11 a shapeCasts_S1x128x11_S128x11) (shapeCast S128x11 a shapeCasts_S1x128x11_S128x11))
              (constant S_ .f32 0x00000000#32) reducesTo_S128x11_S11_d0 h_S_)))))
      (broadcastInDim S16384x11 ![] bcast_S_S16384x11 (constant S_ .f32 0x322BCC77#32)))

/-- An entry of the table of similarities is the similarity of its row and its point. -/
theorem sims_at (x : FVec Ideal S16384x128 .f32) (a : FVec Ideal S1x128x11 .f32) (r : Fin 16384) (p : Fin 11) :
    sims x a (ix2 r p) = score x a r p := by
  unfold score cosine
  pointwise [sims]

/-- For every action, the greatest similarity of the points that belong to it. -/
def pooled (s : FVec Ideal S16384x11 .f32) : FVec Ideal S16384x4 .f32 :=
  Host.reduce FloatOps.maximumf
    (select
      (broadcastInDim S16384x11x4 ![0, 1, 2] bcast_S1x11x4_S16384x11x4_0_1_2
        (broadcastInDim S1x11x4 ![1, 2] bcast_S11x4_S1x11x4_1_2
          (cmpi .eq
            (broadcastInDim S11x4 ![0, 1] bcast_S11x1_S11x4_0_1
              (broadcastInDim S11x1 ![0] bcast_S11_S11x1_0 fun i => lit0 (S11.rowMajor i)))
            (broadcastInDim S11x4 ![0, 1] bcast_S1x4_S11x4_0_1
              (broadcastInDim S1x4 ![1] bcast_S4_S1x4_1 (iotaInDim S4 32 0))))))
      (broadcastInDim S16384x11x4 ![0, 1, 2] bcast_S16384x11x1_S16384x11x4_0_1_2
        (broadcastInDim S16384x11x1 ![0, 1] bcast_S16384x11_S16384x11x1_0_1 s))
      (broadcastInDim S16384x11x4 ![] bcast_S_S16384x11x4 (constant S_ .f32 0xFF800000#32)))
    (constant S_ .f32 0xFF800000#32) reducesTo_S16384x11x4_S16384x4_d1 h_S_

/-- The table of actions against the actions' numbers: the comparison holds at a point and the action it belongs to. -/
theorem belongs (p : Fin 11) (l : Fin 4) :
    IntOp.cmpi .eq (lit0 (S11.rowMajor (ix1 p))) (BitVec.ofNat 32 l.val) = if act p = l then 1#1 else 0#1 := by
  have e : S11.rowMajor (ix1 p) = p := Fin.ext (by rw [Shape.rowMajor_val_one]; rfl)
  rw [e]
  clear e
  revert p l
  decide

/-- An entry of the pooled table is the greatest similarity of its action's points. -/
theorem pooled_at (s : FVec Ideal S16384x11 .f32) (r : Fin 16384) (l : Fin 4) :
    pooled s (ix2 r l) = Best.pool (fun p => s (ix2 r p)) l := by
  pointwise [pooled]
  unfold Best.pool
  simp only [belongs, ofBits_bot, Scalar.select]
  congr 1
  funext p
  by_cases h : act p = l
  · simp [h]
  · simp [h]

/-- In every row, the first action whose pooled similarity is the greatest. -/
def best (q : FVec Ideal S16384x4 .f32) : IVec S16384 32 := fun j =>
  (Host.argReduce reducer_argmax_f32_i32 q (iotaInDim S16384x4 32 1) (constant S_ .f32 0xFF800000#32)
    (constantI S_ 32 0#32) reducesTo_S16384x4_S16384_d1 h_S_ j).2

/-- The reducer keeps, of two pairs, one that is not worse than either. -/
theorem reducer_best (u v : EReal × BitVec 32) :
    (reducer_argmax_f32_i32 (F := Ideal) u v = u ∨ reducer_argmax_f32_i32 (F := Ideal) u v = v)
      ∧ Beats (reducer_argmax_f32_i32 (F := Ideal) u v) u ∧ Beats (reducer_argmax_f32_i32 (F := Ideal) u v) v := by
  obtain ⟨a, i⟩ := u
  obtain ⟨b, j⟩ := v
  have hr : reducer_argmax_f32_i32 (F := Ideal) (a, i) (b, j)
      = (if b < a then a else b, if b < a ∨ (a = b ∧ i.toInt < j.toInt) then i else j) := by
    have hs : i.slt j = decide (i.toInt < j.toInt) := rfl
    have ho : ∀ c d : Bool, IntOp.ori (BitVec.ofBool c) (BitVec.ofBool d) = BitVec.ofBool (c || d) := by decide
    have hn : ∀ c d : Bool, IntOp.andi (BitVec.ofBool c) (BitVec.ofBool d) = BitVec.ofBool (c && d) := by decide
    have hb : ∀ c : Bool, (BitVec.ofBool c = 1) = (c = true) := by decide
    show (Scalar.select (IntOp.ori (Ideal.cmp .ogt a b) (Ideal.cmp .une a a)) a b,
      Scalar.select (IntOp.ori (IntOp.ori (Ideal.cmp .ogt a b) (Ideal.cmp .une a a))
        (IntOp.andi (Ideal.cmp .oeq a b) (IntOp.cmpi .slt i j))) i j) = _
    unfold Scalar.select Ideal.cmp IntOp.cmpi
    simp only [ho, hn, hb, hs]
    simp
  rw [hr]
  unfold Beats
  rcases lt_trichotomy a b with h | h | h
  · have h1 : ¬ b < a := not_lt.2 h.le
    have h2 : ¬ a = b := h.ne
    simp [h1, h2, h]
  · subst h
    by_cases hi : i.toInt < j.toInt
    · simp [hi, hi.le]
    · simp [hi, not_lt.1 hi]
  · simp [h]

/-- The place that the arg-maximum finds in a row: the first of the greatest value. -/
theorem best_at (q : FVec Ideal S16384x4 .f32) (r : Fin 16384) (b : Fin 4) (hb : ∀ c, q (ix2 r c) ≤ q (ix2 r b))
    (hlt : ∀ c, c < b → q (ix2 r c) < q (ix2 r b)) : best q (ix1 r) = BitVec.ofNat 32 b.val := by
  unfold best
  rw [Ideal.argReduce_eq_reduce2, Host.reduce2_eq_foldl_fiber]
  have hinit : (constant (F := Ideal) S_ .f32 0xFF800000#32 (Shape.Idx.first h_S_), constantI S_ 32 0#32 (Shape.Idx.first h_S_))
      = ((⊥ : EReal), 0#32) := Prod.ext ofBits_bot rfl
  rw [hinit]
  refine foldl_place _ reducer_best _ (fun c => q (ix2 r c)) (fun v => ?_) b hb hlt
  have hdrop : ∀ (i : Fin 16384) (c : Fin 4), reducesTo_S16384x4_S16384_d1.drop (ix2 i c) = ix1 i := fun i c => by
    funext d
    match d with
    | ⟨0, _⟩ => rfl
  unfold Host.argReduceFiber
  simp only [List.mem_map, List.mem_filter, List.mem_finRange, true_and, decide_eq_true_eq]
  constructor
  · rintro ⟨n, hn, rfl⟩
    obtain ⟨i, c, e⟩ : ∃ (i : Fin 16384) (c : Fin 4), S16384x4.rowMajor.symm n = ix2 i c := ⟨_, _, eq_ix2 _⟩
    rw [e, hdrop, ix1_inj] at hn
    rw [e, hn]
    exact ⟨c, rfl⟩
  · rintro ⟨c, rfl⟩
    refine ⟨S16384x4.rowMajor (ix2 r c), ?_, ?_⟩
    · rw [Equiv.symm_apply_apply, hdrop]
    · rw [Equiv.symm_apply_apply]; rfl

/-- The place in the flat table to which every row's one is written: four times the row, plus its action; a negative
    place would be counted from the end. -/
def place (b : IVec S16384 32) : IVec S16384x1 32 :=
  let g : IVec S16384 32 := addi b (muli (iotaInDim S16384 32 0) (broadcastInDim S16384 ![] bcast_S_S16384 (constantI S_ 32 4#32)))
  broadcastInDim S16384x1 ![0] bcast_S16384_S16384x1_0
    (select (cmpi .slt g (broadcastInDim S16384 ![] bcast_S_S16384 (constantI S_ 32 0#32)))
      (addi g (broadcastInDim S16384 ![] bcast_S_S16384 (constantI S_ 32 65536#32))) g)

/-- The place of a row whose action is `b`. -/
theorem place_at (b : IVec S16384 32) (r : Fin 16384) (c : Fin 4) (h : b (ix1 r) = BitVec.ofNat 32 c.val) (z : Fin 1) :
    place b (ix2 r z) = BitVec.ofNat 32 (4 * r.val + c.val) := by
  have hr := r.isLt
  have hc := c.isLt
  have hg : IntOp.addi (BitVec.ofNat 32 c.val) (IntOp.muli (BitVec.ofNat 32 r.val) 4#32) = BitVec.ofNat 32 (4 * r.val + c.val) := by
    show BitVec.ofNat 32 c.val + BitVec.ofNat 32 r.val * 4#32 = _
    apply BitVec.eq_of_toNat_eq
    simp only [BitVec.toNat_add, BitVec.toNat_mul, BitVec.toNat_ofNat]
    omega
  pointwise [place]
  rw [h, hg, Routing.wrap_of_lt]
  simp only [BitVec.toNat_ofNat]
  omega

/-- The flat table of zeros with a one at every row's place, as a table of four columns. -/
def hots (i : IVec S16384x1 32) : FVec Ideal S16384x4 .f32 :=
  shapeCast S16384x4
    (Host.scatter scatter_S65536_S16384x1_S16384_n_0_0_1 (fun _ b => b)
      (broadcastInDim S65536 ![] bcast_S_S65536 (constant (F := Ideal) S_ .f32 0x00000000#32)) i
      (broadcastInDim S16384 ![] bcast_S_S16384 (constant (F := Ideal) S_ .f32 0x3F800000#32)))
    shapeCasts_S65536_S16384x4

/-- Row `k`'s one lands at entry `e` of the flat table exactly when its place, read signed, is `e`. -/
theorem lands (i : IVec S16384x1 32) (k : Fin 16384) (e : Fin 65536) :
    scatter_S65536_S16384x1_S16384_n_0_0_1.resultIdx? (ix1 k) i = some (ix1 e) ↔ (i (ix2 k 0)).toInt = e.val := by
  rw [ix1_eq_valueIdx e, Routing.resultIdx?_ix1]
  have hw : scatter_S65536_S16384x1_S16384_n_0_0_1.window (ix1 k) 0 = 0 := rfl
  have hs : scatter_S65536_S16384x1_S16384_n_0_0_1.start (ix1 k) i 0 = (i (ix2 k 0)).toInt := by
    unfold ScatterDims.start
    rw [dif_pos (show (0 : Fin 1) ∈ scatter_S65536_S16384x1_S16384_n_0_0_1.scatterDimsToOperandDims from List.mem_singleton.2 rfl)]
    congr 2
    funext d
    match d with
    | ⟨0, _⟩ => rfl
    | ⟨1, _⟩ => rfl
  rw [hw, hs]
  simp

/-- The table of ones, when row `r`'s place is four times `r` plus its action. -/
theorem hots_at (i : IVec S16384x1 32) (c : Fin 16384 → Fin 4)
    (h : ∀ r, i (ix2 r 0) = BitVec.ofNat 32 (4 * r.val + (c r).val)) (r : Fin 16384) (l : Fin 4) :
    hots i (ix2 r l) = if l = c r then 1 else 0 := by
  have hr := r.isLt
  have hl := l.isLt
  have hcast : hots i (ix2 r l) = Host.scatter scatter_S65536_S16384x1_S16384_n_0_0_1 (fun _ b => b)
      (broadcastInDim S65536 ![] bcast_S_S65536 (constant (F := Ideal) S_ .f32 0x00000000#32)) i
      (broadcastInDim S16384 ![] bcast_S_S16384 (constant (F := Ideal) S_ .f32 0x3F800000#32))
      (ix1 ⟨4 * r.val + l.val, by omega⟩) := by
    unfold hots
    refine shapeCast_apply _ _ _ _ ?_
    rw [Shape.rowMajor_val_one, Shape.rowMajor_val_two]
    show 4 * r.val + l.val = r.val * 4 + l.val
    omega
  have hI : ∀ k : Fin 16384, (i (ix2 k 0)).toInt = ((4 * k.val + (c k).val : Nat) : Int) := fun k => by
    have hk := k.isLt
    have hc := (c k).isLt
    rw [h k, BitVec.toInt_eq_toNat_of_lt (by simp only [BitVec.toNat_ofNat]; omega)]
    simp only [BitVec.toNat_ofNat]
    omega
  rw [hcast]
  by_cases hlc : l = c r
  · rw [if_pos hlc]
    subst hlc
    refine Routing.scatter_set_hit _ _ _ _ _ _ (fun k _ => ?_) (ix1 r) ((lands i r _).2 (hI r))
    exact Ideal.ofBits_one_f32
  · rw [if_neg hlc]
    rw [Routing.scatter_set_miss]
    · exact Ideal.ofBits_zero_f32
    · intro k hk
      obtain ⟨kk, rfl⟩ : ∃ kk : Fin 16384, k = ix1 kk := ⟨_, eq_ix1 k⟩
      have := (lands i _ _).1 hk
      rw [hI] at this
      have hk' := (c kk).isLt
      have h1 : 4 * kk.val + (c kk).val = 4 * r.val + l.val := by exact_mod_cast this
      have h2 : kk = r := Fin.ext (by omega)
      subst h2
      exact hlc (Fin.ext (by omega))

/-- The reference's table: entry (r, l) is one at the action chosen for row `r`, and zero elsewhere. -/
theorem table_at (x : FVec Ideal S16384x128 .f32) (a : FVec Ideal S1x128x11 .f32) (r : Fin 16384) (l : Fin 4) :
    hots (place (best (pooled (sims x a)))) (ix2 r l) = if l = choice (score x a r) then 1 else 0 := by
  refine hots_at _ (fun r => choice (score x a r)) (fun r => place_at _ r _ ?_ 0) r l
  obtain ⟨p, hp, hc⟩ := choice_spec (score x a r)
  obtain ⟨h1, h2⟩ := pool_first (score x a r) p hp
  have hq : ∀ b, pooled (sims x a) (ix2 r b) = Best.pool (score x a r) b := fun b => by
    rw [pooled_at]
    exact congrArg (fun s => Best.pool s b) (funext fun p => sims_at x a r p)
  rw [hc]
  refine best_at _ r _ (fun b => ?_) (fun b hb => ?_)
  · rw [hq, hq]; exact h1 b
  · rw [hq, hq]; exact h2 b hb

end Cert.ReferenceIdeal.Best
end
-- ==== Proof.lean ====
/- The five claims about this kernel: the three programs run to an end, keep their arguments and leave every semaphore
   counter at zero; the kernel read over the extended reals is the kernel's own text; and that reading gives the
   reference's result. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.KernelValue
public import proofs.«01_k».proof.Proof.RefValue
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel

/-- The reference's table of ones, in terms of its two arguments, is the common result. -/
theorem reference_table (x : FVec Ideal Cert.ReferenceIdeal.S16384x128 .f32) (a : FVec Ideal Cert.ReferenceIdeal.S1x128x11 .f32) [Cert.ReferenceIdeal.Facts] :
    Cert.ReferenceIdeal.Best.hots (Cert.ReferenceIdeal.Best.place (Cert.ReferenceIdeal.Best.best
        (Cert.ReferenceIdeal.Best.pooled (Cert.ReferenceIdeal.Best.sims x a))))
      = fun i => Cert.Best.hot (fun r k => x (ix2 r k)) (fun k p => a (ix3 0 k p)) (i 0) (i 1) := by
  funext i
  obtain ⟨r, l, rfl⟩ : ∃ (r : Fin 16384) (l : Fin 4), i = ix2 r l := ⟨_, _, eq_ix2 i⟩
  exact Cert.ReferenceIdeal.Best.table_at x a r l

/-- The reference runs, from any contents of its buffers, to a state in which every semaphore counter is zero. -/
theorem quiescent_reference : letI := Cert.ReferenceIdeal.Gen.facts; Cert.quiescent_ReferenceIdeal := by
  intro m g _
  hlo_run
  · exact fun _ => ⟨trivial, trivial⟩
  · exact Idealize.ShloMosaic.sem_eq_zero_of_no_sems (by decide) _

/-- The kernel and the reference, begun with the same arguments, end with the same table of ones. -/
theorem kernel_reference : letI := Cert.KernelIdeal.Gen.facts; letI := Cert.ReferenceIdeal.Gen.facts; Cert.algebraic_KernelIdeal_ReferenceIdeal := by
  letI := Cert.ReferenceIdeal.Gen.facts
  pair_intro
  · run_from Cert.KernelIdeal.Value.run_blocks m g
  · hlo_run
    rw [Cert.KernelIdeal.Best.final]
    refine Eq.trans ?_ (reference_table (m (c.tc.loc Cert.KernelIdeal.main_arg0)) (m (c.tc.loc Cert.KernelIdeal.main_arg1)))
    unfold Cert.ReferenceIdeal.Best.hots Cert.ReferenceIdeal.Best.place Cert.ReferenceIdeal.Best.best Cert.ReferenceIdeal.Best.pooled Cert.ReferenceIdeal.Best.sims
    simp only [StableHlo.TRef.ofBuf_toBuf]
    simp -implicitDefEqProofs only [StableHlo.TRef.toBuf, StableHlo.TRef.ofBuf, cast_cast, cast_eq]
    rfl

/-- The claim: its five parts. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_reference, trivial, kernel_reference⟩

end Cert.Proof

end
